-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_graphs_zero_biases [hPre_uniform_graphs_zero_biases : Cert.Pre_uniform_graphs_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_uniform_graphs_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_graphs_zero_biases [hPre_uniform_graphs_zero_biases : Cert.Pre_uniform_graphs_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_uniform_graphs_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_uniform_graphs_zero_biases [hKernelIdeal : Cert.KernelIdeal.Facts] [hPre_uniform_graphs_zero_biases : Cert.Pre_uniform_graphs_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_graphs_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_uniform_graphs_zero_biases [hReferenceIdeal : Cert.ReferenceIdeal.Facts] [hPre_uniform_graphs_zero_biases : Cert.Pre_uniform_graphs_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_graphs_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_uniform_graphs_zero_biases [hKernelIdeal : Cert.KernelIdeal.Facts] [hReferenceIdeal : Cert.ReferenceIdeal.Facts] [hPre_uniform_graphs_zero_biases : Cert.Pre_uniform_graphs_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_graphs_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_uniform_graphs_zero_biases : Cert.Pre_uniform_graphs_zero_biases.Facts),
    quiescent_Kernel (hKernel := hKernel)
    ∧ quiescent_KernelIdeal (hKernelIdeal := hKernelIdeal)
    ∧ quiescent_KernelIdeal_pre_uniform_graphs_zero_biases (hKernelIdeal := hKernelIdeal) (hPre_uniform_graphs_zero_biases := hPre_uniform_graphs_zero_biases)
    ∧ quiescent_ReferenceIdeal (hReferenceIdeal := hReferenceIdeal)
    ∧ quiescent_ReferenceIdeal_pre_uniform_graphs_zero_biases (hReferenceIdeal := hReferenceIdeal) (hPre_uniform_graphs_zero_biases := hPre_uniform_graphs_zero_biases)
    ∧ preserves_Kernel_KernelIdeal
    ∧ algebraic_KernelIdeal_ReferenceIdeal_pre_uniform_graphs_zero_biases (hKernelIdeal := hKernelIdeal) (hReferenceIdeal := hReferenceIdeal) (hPre_uniform_graphs_zero_biases := hPre_uniform_graphs_zero_biases)
-- ==== Pre_uniform_graphs_zero_biases.lean ====
abbrev S1x8192x128 : Shape := ⟨3, ![1, 8192, 128]⟩
abbrev S8192 : Shape := ⟨1, ![8192]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x256 : Shape := ⟨2, ![1, 256]⟩
abbrev S1 : Shape := ⟨1, ![1]⟩
abbrev S_ : Shape := ⟨0, ![]⟩

class Facts : Prop where
  bcast_S_S8192 : S_.BroadcastsInDim S8192 (![] : Fin 0 → Fin S8192.rank)
  bcast_S_S512 : S_.BroadcastsInDim S512 (![] : Fin 0 → Fin S512.rank)
  bcast_S_S128 : S_.BroadcastsInDim S128 (![] : Fin 0 → Fin S128.rank)
  bcast_S_S1 : S_.BroadcastsInDim S1 (![] : Fin 0 → Fin S1.rank)

variable [Facts]

def fn_where {F : FTy → Type} [FloatOps F] (arg0 : IVec S8192 1) (arg1 : IVec S8192 32) (arg2 : IVec S8192 32) : IVec S8192 32 :=
  let v0 : IVec S8192 32 := select arg0 arg1 arg2
  v0

def fn_floor_divide {F : FTy → Type} [FloatOps F] (arg0 : IVec S8192 32) (arg1 : IVec S_ 32) : IVec S8192 32 :=
  let v0 : IVec S_ 32 := id arg1
  let v1 : IVec S8192 32 := broadcastInDim S8192 ![] bcast_S_S8192 v0
  let v2 : IVec S8192 32 := Host.divsi arg0 v1
  let v3 : IVec S8192 32 := signi arg0
  let v4 : IVec S_ 32 := signi v0
  let v5 : IVec S8192 32 := broadcastInDim S8192 ![] bcast_S_S8192 v4
  let v6 : IVec S8192 1 := cmpi .ne v3 v5
  let v7 : IVec S8192 32 := broadcastInDim S8192 ![] bcast_S_S8192 v0
  let v8 : IVec S8192 32 := Host.remsi arg0 v7
  let c : IVec S_ 32 := constantI S_ 32 0#32
  let v9 : IVec S8192 32 := broadcastInDim S8192 ![] bcast_S_S8192 c
  let v10 : IVec S8192 1 := cmpi .ne v8 v9
  let v11 : IVec S8192 1 := andi v6 v10
  let c_0 : IVec S_ 32 := constantI S_ 32 1#32
  let v12 : IVec S8192 32 := broadcastInDim S8192 ![] bcast_S_S8192 c_0
  let v13 : IVec S8192 32 := subi v2 v12
  let v14 : IVec S8192 32 := fn_where (F := F) v11 v13 v2
  v14

def fn {F : FTy → Type} [FloatOps F] (main_arg0 : FVec F S1x8192x128 .f32) (main_arg1 : IVec S8192 32) (main_arg2 : IVec S8192 1) (main_arg3 : FVec F S512x128 .f32) (main_arg4 : FVec F S512x128 .f32) (main_arg5 : FVec F S512 .f32) (main_arg6 : FVec F S512 .f32) (main_arg7 : FVec F S128x128 .f32) (main_arg8 : FVec F S128 .f32) (main_arg9 : FVec F S128x128 .f32) (main_arg10 : FVec F S128 .f32) (main_arg11 : FVec F S1x256 .f32) (main_arg12 : FVec F S1 .f32) : IVec S8192 1 × IVec S512 1 × IVec S512 1 × IVec S128 1 × IVec S128 1 × IVec S1 1 :=
  let main_v0 : IVec S8192 32 := iotaInDim S8192 32 0
  let main_c : IVec S_ 32 := constantI S_ 32 1024#32
  let main_v1 : IVec S8192 32 := fn_floor_divide (F := F) main_v0 main_c
  let main_v2 : IVec S8192 1 := cmpi .eq main_arg1 main_v1
  let main_cst : FVec F S_ .f32 := constant S_ .f32 0x00000000#32
  let main_v3 : FVec F S512 .f32 := broadcastInDim S512 ![] bcast_S_S512 main_cst
  let main_v4 : IVec S512 1 := cmpf .oeq main_arg5 main_v3
  let main_cst_0 : FVec F S_ .f32 := constant S_ .f32 0x00000000#32
  let main_v5 : FVec F S512 .f32 := broadcastInDim S512 ![] bcast_S_S512 main_cst_0
  let main_v6 : IVec S512 1 := cmpf .oeq main_arg6 main_v5
  let main_cst_1 : FVec F S_ .f32 := constant S_ .f32 0x00000000#32
  let main_v7 : FVec F S128 .f32 := broadcastInDim S128 ![] bcast_S_S128 main_cst_1
  let main_v8 : IVec S128 1 := cmpf .oeq main_arg8 main_v7
  let main_cst_2 : FVec F S_ .f32 := constant S_ .f32 0x00000000#32
  let main_v9 : FVec F S128 .f32 := broadcastInDim S128 ![] bcast_S_S128 main_cst_2
  let main_v10 : IVec S128 1 := cmpf .oeq main_arg10 main_v9
  let main_cst_3 : FVec F S_ .f32 := constant S_ .f32 0x00000000#32
  let main_v11 : FVec F S1 .f32 := broadcastInDim S1 ![] bcast_S_S1 main_cst_3
  let main_v12 : IVec S1 1 := cmpf .oeq main_arg12 main_v11
  (main_v2, main_v4, main_v6, main_v8, main_v10, main_v12)
-- ==== Kernel.lean ====
abbrev S1x8192x128 : Shape := ⟨3, ![1, 8192, 128]⟩
abbrev S8192 : Shape := ⟨1, ![8192]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x256 : Shape := ⟨2, ![1, 256]⟩
abbrev S1 : Shape := ⟨1, ![1]⟩
abbrev S8x1x1024 : Shape := ⟨3, ![8, 1, 1024]⟩
abbrev S8x1x2048 : Shape := ⟨3, ![8, 1, 2048]⟩
abbrev S1x8x2048 : Shape := ⟨3, ![1, 8, 2048]⟩
abbrev S1x4096x128 : Shape := ⟨3, ![1, 4096, 128]⟩
abbrev S4x1x1024 : Shape := ⟨3, ![4, 1, 1024]⟩
abbrev S4x1x2048 : Shape := ⟨3, ![4, 1, 2048]⟩
abbrev S384x128 : Shape := ⟨2, ![384, 128]⟩
abbrev S1x128 : Shape := ⟨2, ![1, 128]⟩
abbrev S1x1024 : Shape := ⟨2, ![1, 1024]⟩
abbrev S4096x128 : Shape := ⟨2, ![4096, 128]⟩
abbrev S4096x384 : Shape := ⟨2, ![4096, 384]⟩
abbrev S1x4096 : Shape := ⟨2, ![1, 4096]⟩
abbrev S1024x128 : Shape := ⟨2, ![1024, 128]⟩
abbrev S1x1 : Shape := ⟨2, ![1, 1]⟩
abbrev S1x1x1024 : Shape := ⟨3, ![1, 1, 1024]⟩

abbrev nBuf : Space → Nat
  | .hbm => 17
  | .vmem => 10
  | .smem => 0
  | _ => 0

abbrev bufTy : (tb : Table) → Fin (tcTables nBuf tb) → BufTy
  | .hbm, ⟨0, _⟩ => ⟨S1x8192x128, .f32⟩
  | .hbm, ⟨1, _⟩ => ⟨S8192, .i32⟩
  | .hbm, ⟨2, _⟩ => ⟨S8192, .i1⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S8x1x1024, .i1⟩
  | .hbm, ⟨14, _⟩ => ⟨S8x1x1024, .i32⟩
  | .hbm, ⟨15, _⟩ => ⟨S8x1x2048, .f32⟩
  | .hbm, ⟨16, _⟩ => ⟨S1x8x2048, .f32⟩
  | .local _ .vmem, ⟨0, _⟩ => ⟨S1x4096x128, .f32⟩
  | .local _ .vmem, ⟨1, _⟩ => ⟨S1x4096x128, .f32⟩
  | .local _ .vmem, ⟨2, _⟩ => ⟨S512x128, .f32⟩
  | .local _ .vmem, ⟨3, _⟩ => ⟨S128x128, .f32⟩
  | .local _ .vmem, ⟨4, _⟩ => ⟨S128x128, .f32⟩
  | .local _ .vmem, ⟨5, _⟩ => ⟨S1x256, .f32⟩
  | .local _ .vmem, ⟨6, _⟩ => ⟨S4x1x1024, .i32⟩
  | .local _ .vmem, ⟨7, _⟩ => ⟨S4x1x1024, .i32⟩
  | .local _ .vmem, ⟨8, _⟩ => ⟨S4x1x2048, .f32⟩
  | .local _ .vmem, ⟨9, _⟩ => ⟨S4x1x2048, .f32⟩
  | _, _ => ⟨S1x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x8192x128 : Shape := ⟨3, ![1, 8192, 128]⟩
abbrev S8192 : Shape := ⟨1, ![8192]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x256 : Shape := ⟨2, ![1, 256]⟩
abbrev S1 : Shape := ⟨1, ![1]⟩
abbrev S8192x128 : Shape := ⟨2, ![8192, 128]⟩
abbrev S_ : Shape := ⟨0, ![]⟩
abbrev S128x512 : Shape := ⟨2, ![128, 512]⟩
abbrev S8192x512 : Shape := ⟨2, ![8192, 512]⟩
abbrev S1x512 : Shape := ⟨2, ![1, 512]⟩
abbrev S8 : Shape := ⟨1, ![8]⟩
abbrev S8192x1 : Shape := ⟨2, ![8192, 1]⟩
abbrev S8x128 : Shape := ⟨2, ![8, 128]⟩
abbrev S8x1 : Shape := ⟨2, ![8, 1]⟩
abbrev S1x1 : Shape := ⟨2, ![1, 1]⟩
abbrev S1x128 : Shape := ⟨2, ![1, 128]⟩
abbrev S8192x256 : Shape := ⟨2, ![8192, 256]⟩
abbrev S256x1 : Shape := ⟨2, ![256, 1]⟩
abbrev S8x1024 : Shape := ⟨2, ![8, 1024]⟩
abbrev S8x2048 : Shape := ⟨2, ![8, 2048]⟩
abbrev S1x8x2048 : Shape := ⟨3, ![1, 8, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x8192x128, .f32⟩
  | .hbm, ⟨1, _⟩ => ⟨S8192, .i32⟩
  | .hbm, ⟨2, _⟩ => ⟨S8192, .i1⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S_, .f32⟩
  | .hbm, ⟨17, _⟩ => ⟨S8192x128, .f32⟩
  | .hbm, ⟨18, _⟩ => ⟨S128x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S128x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S_, .f32⟩
  | .hbm, ⟨45, _⟩ => ⟨S8192x128, .f32⟩
  | .hbm, ⟨46, _⟩ => ⟨S8192x128, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8, .f32⟩
  | .hbm, ⟨67, _⟩ => ⟨S8192x1, .i32⟩
  | .hbm, ⟨68, _⟩ => ⟨S8, .f32⟩
  | .hbm, ⟨69, _⟩ => ⟨S_, .f32⟩
  | .hbm, ⟨70, _⟩ => ⟨S8x128, .f32⟩
  | .hbm, ⟨71, _⟩ => ⟨S8192x1, .i32⟩
  | .hbm, ⟨72, _⟩ => ⟨S8x128, .f32⟩
  | .hbm, ⟨73, _⟩ => ⟨S8x1, .f32⟩
  | .hbm, ⟨74, _⟩ => ⟨S8x128, .f32⟩
  | .hbm, ⟨75, _⟩ => ⟨S8x128, .f32⟩
  | .hbm, ⟨76, _⟩ => ⟨S_, .i32⟩
  | .hbm, ⟨77, _⟩ => ⟨S8192, .i32⟩
  | .hbm, ⟨78, _⟩ => ⟨S8192, .i1⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .i32⟩
  | .hbm, ⟨83, _⟩ => ⟨S8192x1, .i32⟩
  | .hbm, ⟨84, _⟩ => ⟨S1, .i32⟩
  | .hbm, ⟨85, _⟩ => ⟨S_, .i32⟩
  | .hbm, ⟨86, _⟩ => ⟨S8192x1, .i32⟩
  | .hbm, ⟨87, _⟩ => ⟨S8192x1, .i1⟩
  | .hbm, ⟨88, _⟩ => ⟨S1x1, .i32⟩
  | .hbm, ⟨89, _⟩ => ⟨S8192x1, .i32⟩
  | .hbm, ⟨90, _⟩ => ⟨S8192x1, .i1⟩
  | .hbm, ⟨91, _⟩ => ⟨S8192x1, .i1⟩
  | .hbm, ⟨92, _⟩ => ⟨S_, .i1⟩
  | .hbm, ⟨93, _⟩ => ⟨S8192, .i1⟩
  | .hbm, ⟨94, _⟩ => ⟨S8192x128, .f32⟩
  | .hbm, ⟨95, _⟩ => ⟨S8192x128, .i1⟩
  | .hbm, ⟨96, _⟩ => ⟨S_, .f32⟩
  | .hbm, ⟨97, _⟩ => ⟨S8192x128, .f32⟩
  | .hbm, ⟨98, _⟩ => ⟨S8192x128, .f32⟩
  | .hbm, ⟨99, _⟩ => ⟨S128x128, .f32⟩
  | .hbm, ⟨100, _⟩ => ⟨S8192x128, .f32⟩
  | .hbm, ⟨101, _⟩ => ⟨S1x128, .f32⟩
  | .hbm, ⟨102, _⟩ => ⟨S8192x128, .f32⟩
  | .hbm, ⟨103, _⟩ => ⟨S8192x128, .f32⟩
  | .hbm, ⟨104, _⟩ => ⟨S128x128, .f32⟩
  | .hbm, ⟨105, _⟩ => ⟨S8192x128, .f32⟩
  | .hbm, ⟨106, _⟩ => ⟨S1x128, .f32⟩
  | .hbm, ⟨107, _⟩ => ⟨S8192x128, .f32⟩
  | .hbm, ⟨108, _⟩ => ⟨S8192x128, .f32⟩
  | .hbm, ⟨109, _⟩ => ⟨S8192x256, .f32⟩
  | .hbm, ⟨110, _⟩ => ⟨S_, .f32⟩
  | .hbm, ⟨111, _⟩ => ⟨S8192x256, .f32⟩
  | .hbm, ⟨112, _⟩ => ⟨S8192x256, .f32⟩
  | .hbm, ⟨113, _⟩ => ⟨S256x1, .f32⟩
  | .hbm, ⟨114, _⟩ => ⟨S8192x1, .f32⟩
  | .hbm, ⟨115, _⟩ => ⟨S1x1, .f32⟩
  | .hbm, ⟨116, _⟩ => ⟨S8192x1, .f32⟩
  | .hbm, ⟨117, _⟩ => ⟨S8192x1, .f32⟩
  | .hbm, ⟨118, _⟩ => ⟨S8192, .f32⟩
  | .hbm, ⟨119, _⟩ => ⟨S_, .f32⟩
  | .hbm, ⟨120, _⟩ => ⟨S_, .f32⟩
  | .hbm, ⟨121, _⟩ => ⟨S8192, .f32⟩
  | .hbm, ⟨122, _⟩ => ⟨S8192, .f32⟩
  | .hbm, ⟨123, _⟩ => ⟨S8x1024, .f32⟩
  | .hbm, ⟨124, _⟩ => ⟨S_, .f32⟩
  | .hbm, ⟨125, _⟩ => ⟨S8x1024, .f32⟩
  | .hbm, ⟨126, _⟩ => ⟨S8x2048, .f32⟩
  | .hbm, ⟨127, _⟩ => ⟨S1x8x2048, .f32⟩
  | _, _ => ⟨S1x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call0_c : Ref sig .tc := ⟨.hbm, 76, rfl⟩
abbrev main_call0_v0 : Ref sig .tc := ⟨.hbm, 77, rfl⟩
abbrev main_call0_v1 : Ref sig .tc := ⟨.hbm, 78, rfl⟩
abbrev main_call0_c_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_c_1 : Ref sig .tc := ⟨.hbm, 84, rfl⟩
abbrev main_call0_c_2 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_c_3 : Ref sig .tc := ⟨.hbm, 92, rfl⟩
abbrev main_call0_v12 : Ref sig .tc := ⟨.hbm, 93, rfl⟩
abbrev main_call0_v13 : Ref sig .tc := ⟨.hbm, 94, rfl⟩
abbrev main_call0_v14 : Ref sig .tc := ⟨.hbm, 95, rfl⟩
abbrev main_call0_cst : Ref sig .tc := ⟨.hbm, 96, rfl⟩
abbrev main_call0_v15 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call1_cst : Ref sig .tc := ⟨.hbm, 110, rfl⟩
abbrev main_call1_v0 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_10 : Ref sig .tc := ⟨.hbm, 119, rfl⟩
abbrev main_call2_v0 : Ref sig .tc := ⟨.hbm, 120, rfl⟩
abbrev main_call2_v1 : Ref sig .tc := ⟨.hbm, 121, rfl⟩
abbrev main_v71 : Ref sig .tc := ⟨.hbm, 122, rfl⟩
abbrev main_v72 : Ref sig .tc := ⟨.hbm, 123, rfl⟩
abbrev main_cst_11 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩

abbrev nD : Nat := 1
abbrev τ : Topo := Topo.v7x

variable {F : FTy → Type} [FloatOps F]
-- ==== Proof.Spec.lean ====
/-
  The mathematics of one graph of 1024 nodes, over the extended reals, and the two scalar identities
  that let the kernel fold the logistic gates into hyperbolic tangents. Nothing here mentions a program.
-/
module

public import Idealize.ShloMosaic.Lib.Pointwise

@[expose] public section

noncomputable section

namespace Cert.Spec

open Idealize.ShloMosaic

/-- A gate before its nonlinearity: the inner product of a node's features with one row of the weights. -/
def gate (w x : Fin 128 → EReal) : EReal := ∑ k, x k * w k

/-- One entry of a node's memory after one step of the recurrence from the zero state: the output gate times
    the hyperbolic tangent of the new cell, which is the input gate times the candidate. The rows of `W` hold
    the input gate from 0, the candidate from 256 and the output gate from 384. -/
def memRow (W : Fin 512 → Fin 128 → EReal) (x : Fin 128 → EReal) (j : Fin 128) : EReal :=
  Ideal.logistic (gate (W ⟨384 + j, by omega⟩) x)
    * Ideal.tanh (Ideal.logistic (gate (W ⟨j, by omega⟩) x) * Ideal.tanh (gate (W ⟨256 + j, by omega⟩) x))

/-- The mean of a graph's node memories, one feature: the sum over its 1024 nodes times 1/1024. -/
def pooled (M : Fin 1024 → Fin 128 → EReal) (j : Fin 128) : EReal := (∑ r, M r j) * ((1 / 1024 : ℝ) : EReal)

/-- A linear layer without bias followed by the positive part, one output feature. -/
def layer (V : Fin 128 → Fin 128 → EReal) (x : Fin 128 → EReal) (j : Fin 128) : EReal := max (gate (V j) x) 0

/-- The score of node `r` of a graph with node memories `M`: the graph's pooled features through `W6` against the
    first half of `W5`, plus the node's features through `W7` against the second half. -/
def score (M : Fin 1024 → Fin 128 → EReal) (W6 W7 : Fin 128 → Fin 128 → EReal) (W5 : Fin 256 → EReal) (r : Fin 1024) : EReal :=
  (∑ j : Fin 128, layer W6 (pooled M) j * W5 ⟨j, by omega⟩) + ∑ j : Fin 128, layer W7 (M r) j * W5 ⟨128 + j, by omega⟩

/-- One half as the programs spell it. -/
theorem half_bits : Ideal.ofBits .f32 0x3F000000#32 = ((1 / 2 : ℝ) : EReal) := by
  simp [Ideal.ofBits, Ideal.ieee, -EReal.coe_mul, ← EReal.coe_mul]
  norm_num

/-- 1/1024 as the programs spell it. -/
theorem recip_bits : Ideal.ofBits .f32 0x3A800000#32 = ((1 / 1024 : ℝ) : EReal) := by
  simp [Ideal.ofBits, Ideal.ieee, -EReal.coe_mul, ← EReal.coe_mul]
  norm_num

/-- Minus infinity as the programs spell it. -/
theorem neg_inf_bits : Ideal.ofBits .f32 0xFF800000#32 = ⊥ := by
  simp [Ideal.ofBits, Ideal.ieee]

/-- A gate whose weights are halved is half the gate. -/
theorem gate_half (w x : Fin 128 → EReal) :
    ∑ k, x k * (((1 / 2 : ℝ) : EReal) * w k) = ((1 / 2 : ℝ) : EReal) * gate w x := by
  have hsum : ∀ (s : Finset (Fin 128)) (f : Fin 128 → EReal),
      ((1 / 2 : ℝ) : EReal) * ∑ k ∈ s, f k = ∑ k ∈ s, ((1 / 2 : ℝ) : EReal) * f k := by
    intro s f
    induction s using Finset.induction_on with
    | empty => simp
    | insert a s ha ih =>
      rw [Finset.sum_insert ha, Finset.sum_insert ha,
        EReal.left_distrib_of_nonneg_of_ne_top (by exact_mod_cast (by norm_num : (0 : ℝ) ≤ 1 / 2)) (EReal.coe_ne_top _), ih]
  rw [gate, hsum]
  exact Finset.sum_congr rfl fun k _ => by rw [← mul_assoc, ← mul_assoc, mul_comm (x k)]

/-- The logistic function is an affine image of the hyperbolic tangent at half the argument, at the infinities too. -/
theorem logistic_eq_tanh (x : EReal) :
    ((1 / 2 : ℝ) : EReal) * Ideal.tanh (((1 / 2 : ℝ) : EReal) * x) + ((1 / 2 : ℝ) : EReal) = Ideal.logistic x := by
  have hpos : (0 : ℝ) < 1 / 2 := by norm_num
  induction x with
  | bot =>
    rw [EReal.coe_mul_bot_of_pos hpos, Ideal.logistic_bot]
    show ((1 / 2 : ℝ) : EReal) * (-1) + _ = 0
    have : ((-1 : EReal)) = ((-1 : ℝ) : EReal) := by simp
    rw [this, ← EReal.coe_mul, ← EReal.coe_add]
    norm_num
  | top =>
    rw [EReal.coe_mul_top_of_pos hpos, Ideal.logistic_top]
    show ((1 / 2 : ℝ) : EReal) * 1 + _ = 1
    rw [mul_one, ← EReal.coe_add]
    norm_num
  | coe r =>
    rw [Ideal.logistic_coe, ← EReal.coe_mul]
    show ((1 / 2 : ℝ) : EReal) * ((Real.tanh _ : ℝ) : EReal) + _ = _
    rw [← EReal.coe_mul, ← EReal.coe_add]
    refine congrArg _ ?_
    rw [Real.tanh_eq]
    have h1 : Real.exp (1 / 2 * r) ≠ 0 := (Real.exp_pos _).ne'
    have h2 : Real.exp (-r) = Real.exp (-(1 / 2 * r)) * Real.exp (-(1 / 2 * r)) := by
      rw [← Real.exp_add]; congr 1; ring
    rw [h2, Real.exp_neg]
    set e := Real.exp (1 / 2 * r)
    have h3 : 0 < e := Real.exp_pos _
    field_simp
    ring

end Cert.Spec

end
-- ==== Proof.Block.lean ====
/-
  What the body of the idealized kernel leaves in its output block, as the mathematics of `Proof/Spec.lean`.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Block

open Cert.KernelIdeal Cert.KernelIdeal.Gen Cert.Spec Idealize.ShloMosaic

variable (x0 : FVec Ideal S1x4096x128 .f32) (x1 : FVec Ideal S512x128 .f32) (x2 x3 : FVec Ideal S128x128 .f32)
  (x4 : FVec Ideal S1x256 .f32) (x5 : IVec S4x1x1024 32)

/-- The memory of node `n` of a block, one feature. -/
def mem (n : Fin 4096) (j : Fin 128) : EReal :=
  memRow (fun a k => x1 (ix2 a k)) (fun k => x0 (ix3 0 n k)) j

/-- The score of node `r` of graph `g` of a block. -/
def scoreOf (g : Fin 4) (r : Fin 1024) : EReal :=
  score (fun q => mem x0 x1 ⟨1024 * g + q, by omega⟩) (fun j k => x2 (ix2 j k)) (fun j k => x3 (ix2 j k)) (fun j => x4 (ix2 0 j)) r

/-- One entry of the output block: the score of a reachable node, minus infinity at an unreachable one. -/
def entry (g : Fin 4) (r : Fin 1024) : EReal :=
  Scalar.select (IntOp.cmpi .ne (x5 (ix3 g 0 r)) 0#32) (scoreOf x0 x1 x2 x3 x4 g r) ⊥

/-- The stacked gate product at an input-gate column: half the gate. -/
theorem pay5_in (n : Fin 4096) (j : Fin 128) (h : (j : ℕ) < 384) :
    k0_pay5 (F := Ideal) (View.ld x1 r0_0) (View.ld x1 r0_1) (View.ld x1 r0_2) (View.ld x0 r0_6) (ix2 n ⟨j, h⟩)
      = ((1 / 2 : ℝ) : EReal) * gate (fun k => x1 (ix2 ⟨j, by omega⟩ k)) (fun k => x0 (ix3 0 n k)) := by
  pointwise [k0_pay5]
  rw [half_bits]
  exact gate_half _ _

/-- The stacked gate product at a candidate column: the gate. -/
theorem pay5_cand (n : Fin 4096) (j : Fin 128) (h : 128 + (j : ℕ) < 384) :
    k0_pay5 (F := Ideal) (View.ld x1 r0_0) (View.ld x1 r0_1) (View.ld x1 r0_2) (View.ld x0 r0_6) (ix2 n ⟨128 + j, h⟩)
      = gate (fun k => x1 (ix2 ⟨256 + j, by omega⟩ k)) (fun k => x0 (ix3 0 n k)) := by
  pointwise [k0_pay5, gate]

/-- The stacked gate product at an output-gate column: half the gate. -/
theorem pay5_out (n : Fin 4096) (j : Fin 128) (h : 256 + (j : ℕ) < 384) :
    k0_pay5 (F := Ideal) (View.ld x1 r0_0) (View.ld x1 r0_1) (View.ld x1 r0_2) (View.ld x0 r0_6) (ix2 n ⟨256 + j, h⟩)
      = ((1 / 2 : ℝ) : EReal) * gate (fun k => x1 (ix2 ⟨384 + j, by omega⟩ k)) (fun k => x0 (ix3 0 n k)) := by
  pointwise [k0_pay5]
  rw [half_bits, ← gate_half]
  refine Finset.sum_congr rfl fun k _ => ?_
  rw [dif_neg (by omega), dif_neg (by omega)]
  have e : 384 + (256 + (j : ℕ) - 128 - 128) = 384 + j := by omega
  simp only [e]

/-- The product the body takes of its output gate and squashed cell is the node's memory. -/
theorem pay8_apply (n : Fin 4096) (j : Fin 128) :
    k0_pay8 (F := Ideal) (k0_pay21 x0 x1 x2 x3 x4 x5) (k0_pay22 x0 x1 x2 x3 x4 x5) (ix2 n j) = mem x0 x1 n j := by
  pointwise [k0_pay8, k0_pay21, k0_pay22, k0_pay6, k0_pay7]
  rw [pay5_in, pay5_cand, pay5_out, half_bits, logistic_eq_tanh, logistic_eq_tanh]
  rfl

/-- The body's scores of the nodes alone: the second half of `W5` against the node's features through `W7`. -/
theorem pay24_apply (n : Fin 4096) :
    k0_pay24 (F := Ideal) x0 x1 x2 x3 x4 x5 (ix2 0 n)
      = ∑ j : Fin 128, layer (fun j k => x3 (ix2 j k)) (mem x0 x1 n) j * x4 (ix2 0 ⟨128 + j, by omega⟩) := by
  pointwise [k0_pay24, k0_pay9, k0_pay19, k0_pay3, pay8_apply]
  exact Finset.sum_congr rfl fun j _ => mul_comm _ _

/-- The arithmetic of a score, in the order in which the body takes it. -/
theorem score_eq (g : Fin 4) (r : Fin 1024) :
    scoreOf x0 x1 x2 x3 x4 g r
      = k0_pay24 (F := Ideal) x0 x1 x2 x3 x4 x5 (ix2 0 ⟨1024 * g + r, by omega⟩)
        + ∑ j : Fin 128, max (∑ k : Fin 128, (∑ q : Fin 1024, mem x0 x1 ⟨1024 * g + q, by omega⟩ k)
            * Ideal.ofBits .f32 0x3A800000#32 * x2 (ix2 j k)) 0 * x4 (ix2 0 ⟨j, by omega⟩) := by
  rw [pay24_apply, recip_bits, add_comm]
  rfl

/-- The first graph's scores. -/
theorem piece0 (r : Fin 1024) :
    k0_pay10 (F := Ideal) (k0_pay19 x0 x1 x2 x3 x4 x5) (View.ld x4 r0_4) (View.ld x4 r0_5) (k0_pay21 x0 x1 x2 x3 x4 x5)
        (k0_pay22 x0 x1 x2 x3 x4 x5) (View.ld x2 r0_3) (View.ld x5 r0_7) (ix3 0 0 r)
      = entry x0 x1 x2 x3 x4 x5 0 r := by
  rw [entry, score_eq x0 x1 x2 x3 x4 x5]
  pointwise [k0_pay10, k0_pay24, pay8_apply]
  rw [neg_inf_bits]

/-- The second graph's scores. -/
theorem piece1 (r : Fin 1024) :
    k0_pay13 (F := Ideal) (View.ld x4 r0_4) (k0_pay24 x0 x1 x2 x3 x4 x5) (k0_pay12 (k0_pay21 x0 x1 x2 x3 x4 x5) (k0_pay22 x0 x1 x2 x3 x4 x5))
        (Scalar.ofBits .f32 0x3A800000#32) (View.ld x2 r0_3) (View.ld x5 r0_10) (ix3 0 0 r)
      = entry x0 x1 x2 x3 x4 x5 1 r := by
  rw [entry, score_eq x0 x1 x2 x3 x4 x5]
  pointwise [k0_pay13, k0_pay12, pay8_apply]
  rw [neg_inf_bits]

/-- The third graph's scores. -/
theorem piece2 (r : Fin 1024) :
    k0_pay16 (F := Ideal) (k0_pay24 x0 x1 x2 x3 x4 x5) (k0_pay15 (View.ld x4 r0_4) (k0_pay23 x0 x1 x2 x3 x4 x5) (View.ld x2 r0_3))
        (View.ld x5 r0_13) (ix3 0 0 r)
      = entry x0 x1 x2 x3 x4 x5 2 r := by
  rw [entry, score_eq x0 x1 x2 x3 x4 x5]
  pointwise [k0_pay16, k0_pay15, k0_pay23, pay8_apply]
  rw [neg_inf_bits]

/-- The fourth graph's scores. -/
theorem piece3 (r : Fin 1024) :
    k0_pay1 (F := Ideal) (k0_pay18 (View.ld x4 r0_4) (k0_pay23 x0 x1 x2 x3 x4 x5) (k0_pay24 x0 x1 x2 x3 x4 x5) (View.ld x2 r0_3)
        (View.ld x5 r0_16)) (ix3 0 0 r)
      = entry x0 x1 x2 x3 x4 x5 3 r := by
  rw [entry, score_eq x0 x1 x2 x3 x4 x5]
  pointwise [k0_pay1, k0_pay18, k0_pay23, pay8_apply]
  rw [neg_inf_bits]

/-- The output block: scores on the first 1024 columns of each graph's row, minus infinity on the rest. -/
def outSpec (y : S4x1x2048.Idx) : EReal :=
  if h : (y 2 : ℕ) < 1024 then entry x0 x1 x2 x3 x4 x5 (y 0) ⟨y 2, h⟩ else ⊥

/-- The specified block at a column of a graph's nodes. -/
theorem outSpec_lo (g : Fin 4) (r : Fin 1024) (y : S4x1x2048.Idx) (h0 : (y 0 : ℕ) = g) (h2 : (y 2 : ℕ) = r) :
    outSpec x0 x1 x2 x3 x4 x5 y = entry x0 x1 x2 x3 x4 x5 g r := by
  unfold outSpec
  rw [dif_pos (h2 ▸ r.isLt)]
  exact congrArg₂ (entry x0 x1 x2 x3 x4 x5) (Fin.ext h0) (Fin.ext h2)

/-- The specified block at a padding column. -/
theorem outSpec_hi (y : S4x1x2048.Idx) (h2 : 1024 ≤ (y 2 : ℕ)) : outSpec x0 x1 x2 x3 x4 x5 y = ⊥ :=
  dif_neg (Nat.not_lt.mpr h2)

/-- An index of a stored row is its column. -/
theorem row_idx (x : S1x1x1024.Idx) : x = ix3 0 0 (x 2) := by
  idx_vars x
  obtain rfl := Subsingleton.elim x0 0
  obtain rfl := Subsingleton.elim x1 0
  rfl

/-- The block the body leaves, read at an index. -/
theorem out_apply (y : S4x1x2048.Idx) : out0_6 (F := Ideal) x0 x1 x2 x3 x4 x5 y = outSpec x0 x1 x2 x3 x4 x5 y := by
  unfold out0_6
  canon_tiles x h
  case piece1 =>
    rw [row_idx x]
    exact (piece3 x0 x1 x2 x3 x4 x5 (x 2)).trans (outSpec_lo x0 x1 x2 x3 x4 x5 3 (x 2) y (by omega) h2).symm
  case piece3 =>
    rw [row_idx x]
    exact (piece2 x0 x1 x2 x3 x4 x5 (x 2)).trans (outSpec_lo x0 x1 x2 x3 x4 x5 2 (x 2) y (by omega) h2).symm
  case piece5 =>
    rw [row_idx x]
    exact (piece1 x0 x1 x2 x3 x4 x5 (x 2)).trans (outSpec_lo x0 x1 x2 x3 x4 x5 1 (x 2) y (by omega) h2).symm
  case piece7 =>
    rw [row_idx x]
    exact (piece0 x0 x1 x2 x3 x4 x5 (x 2)).trans (outSpec_lo x0 x1 x2 x3 x4 x5 0 (x 2) y (by omega) h2).symm
  all_goals
    rw [outSpec_hi x0 x1 x2 x3 x4 x5 y (by omega)]
    open_payloads
    pointwise
    exact neg_inf_bits

end Cert.KernelIdeal.Block

end
-- ==== Proof.KernelRun.lean ====
/-
  What the idealized kernel leaves in its result, as a function of its arguments.
-/
module

public import proofs.«01_k».proof.Proof.Block
public import Idealize.ShloMosaic.Lib.Claim

@[expose] public section

set_option maxRecDepth 16384

noncomputable section

namespace Cert.KernelIdeal.KernelRun

open Cert.KernelIdeal Cert.KernelIdeal.Gen Cert.Spec Idealize.ShloMosaic Idealize.SL.Sem

variable (m : (ℓ : Loc nD τ sig) → Buf (Elt Ideal) ℓ)

/-- Where each window's block lies at each grid point. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0] :=
  (by decide +kernel : ∀ t : Fin grid0.N, _)

/-- One entry of the result: the score of node `i` of graph `b` where it is reachable, minus infinity elsewhere. -/
def cell (a0 : FVec Ideal S1x8192x128 .f32) (a2 : IVec S8192 1) (a3 : FVec Ideal S512x128 .f32)
    (a7 a9 : FVec Ideal S128x128 .f32) (a11 : FVec Ideal S1x256 .f32) (b : Fin 8) (i : Fin 2048) : EReal :=
  if h : i.val < 1024 then
    Scalar.select (a2 (ix1 ⟨1024 * b.val + i.val, by omega⟩))
      (score (fun q => memRow (fun a k => a3 (ix2 a k)) (fun k => a0 (ix3 0 ⟨1024 * b.val + q.val, by omega⟩ k)))
        (fun j k => a7 (ix2 j k)) (fun j k => a9 (ix2 j k)) (fun j => a11 (ix2 0 j)) ⟨i.val, h⟩) ⊥
  else ⊥

/-- What the region leaves in the array its output window is written back to. -/
def G (c : Dev nD) : FVec Ideal S8x1x2048 .f32 := fun y =>
  cell (m ((c.tc : Thread nD τ).loc main_arg0)) (m ((c.tc : Thread nD τ).loc main_arg2))
    (m ((c.tc : Thread nD τ).loc main_arg3)) (m ((c.tc : Thread nD τ).loc main_arg7))
    (m ((c.tc : Thread nD τ).loc main_arg9)) (m ((c.tc : Thread nD τ).loc main_arg11)) (y 0) (y 2)

/-- Reading a mask bit through its 32-bit form asks the same question as the bit. -/
theorem select_ext (b : BitVec 1) (x y : EReal) :
    Scalar.select (IntOp.cmpi .ne (b.setWidth 32) 0#32) x y = Scalar.select b x y := by
  have h : IntOp.cmpi .ne (b.setWidth 32) 0#32 = b := by revert b; decide
  rw [h]

/-- The memory block at a grid point, read off the argument. -/
theorem blk0 (c : Dev nD) (t : Fin cfg0.N) (n : Fin 4096) (k : Fin 128) (ht : t.val < 2) :
    iblk m c 0 t (ix3 0 n k) = m ((c.tc : Thread nD τ).loc main_arg0) (ix3 0 ⟨4096 * t.val + n.val, by omega⟩ k) := by
  blk_point [iblk, V, idx t]

theorem blk1 (c : Dev nD) (t : Fin cfg0.N) (a : Fin 512) (k : Fin 128) :
    iblk m c 1 t (ix2 a k) = m ((c.tc : Thread nD τ).loc main_arg3) (ix2 a k) := by
  blk_point [iblk, V, idx t]

theorem blk2 (c : Dev nD) (t : Fin cfg0.N) (a : Fin 128) (k : Fin 128) :
    iblk m c 2 t (ix2 a k) = m ((c.tc : Thread nD τ).loc main_arg7) (ix2 a k) := by
  blk_point [iblk, V, idx t]

theorem blk3 (c : Dev nD) (t : Fin cfg0.N) (a : Fin 128) (k : Fin 128) :
    iblk m c 3 t (ix2 a k) = m ((c.tc : Thread nD τ).loc main_arg9) (ix2 a k) := by
  blk_point [iblk, V, idx t]

theorem blk4 (c : Dev nD) (t : Fin cfg0.N) (k : Fin 256) :
    iblk m c 4 t (ix2 0 k) = m ((c.tc : Thread nD τ).loc main_arg11) (ix2 0 k) := by
  blk_point [iblk, V, idx t]

/-- The reachability words the host prepares before the region. -/
theorem entry5 (c : Dev nD) : V m c main_call0_v1
    = extui 32 (shapeCast S8x1x1024 (m ((c.tc : Thread nD τ).loc main_arg2)) shapeCasts_S8192_S8x1x1024) natLt_1_32 := by
  unfold V V0
  simp only [hostOps0, List.flatten_cons, List.flatten_nil, List.append_nil, StableHlo.TRef.unary, StableHlo.TRef.reshape,
    StableHlo.TRef.toBuf, StableHlo.TRef.ofBuf, cast_eq]
  after_results_simp <;> rfl

theorem blk5 (c : Dev nD) (t : Fin cfg0.N) (g : Fin 4) (r : Fin 1024) (ht : t.val < 2) :
    iblk m c 5 t (ix3 g 0 r)
      = (m ((c.tc : Thread nD τ).loc main_arg2) (ix1 ⟨1024 * (4 * t.val + g.val) + r.val, by omega⟩)).setWidth 32 := by
  have h : iblk m c 5 t (ix3 g 0 r) = V m c main_call0_v1 (ix3 ⟨4 * t.val + g.val, by omega⟩ 0 r) := by
    blk_point [iblk, idx t]
  rw [h, entry5]
  have e : (4 * t.val + g.val) * 1024 + r.val = 1024 * (4 * t.val + g.val) + r.val := by omega
  pointwise
  simp only [e]

/-- One entry of a block at a grid point is the entry of the result at the same graph and node. -/
theorem entry_cell (c : Dev nD) (t : Fin cfg0.N) (y : S4x1x2048.Idx) (b : Fin 8) (i : Fin 2048)
    (ht : t.val < 2) (hb : b.val = 4 * t.val + (y 0).val) (hi : i.val = (y 2).val) :
    Block.outSpec (iblk m c 0 t) (iblk m c 1 t) (iblk m c 2 t) (iblk m c 3 t) (iblk m c 4 t) (iblk m c 5 t) y
      = cell (m ((c.tc : Thread nD τ).loc main_arg0)) (m ((c.tc : Thread nD τ).loc main_arg2))
          (m ((c.tc : Thread nD τ).loc main_arg3)) (m ((c.tc : Thread nD τ).loc main_arg7))
          (m ((c.tc : Thread nD τ).loc main_arg9)) (m ((c.tc : Thread nD τ).loc main_arg11)) b i := by
  obtain rfl : i = y 2 := Fin.ext hi
  unfold Block.outSpec cell
  by_cases h : (y 2).val < 1024
  · rw [dif_pos h, dif_pos h]
    unfold Block.entry Block.scoreOf Block.mem
    have hg : (y 0).val < 4 := (y 0).isLt
    rw [blk5 m c t (y 0) ⟨(y 2).val, h⟩ ht, select_ext]
    have e : ∀ q : Fin 1024, 4096 * t.val + (1024 * (y 0).val + q.val) = 1024 * (4 * t.val + (y 0).val) + q.val := by
      intro q; omega
    simp only [blk0 m c t _ _ ht, blk1, blk2, blk3, blk4, e, hb]
  · rw [dif_neg h, dif_neg h]

/-- The region leaves `G` in the array its output window is written back to. -/
theorem final (c : Dev nD) : (dats m 0 c).arrAt 6 (cfgs 0).N = G m c := by
  refine (dats m 0 c).arrAt_eq_of_covers 6 _ (by decide +kernel) fun t _ y => ?_
  blk_simp
  rw [after0_6]
  have ht : t.val < 2 := t.isLt
  refine (Block.out_apply _ _ _ _ _ _ y).trans (entry_cell m c t y _ _ ht ?_ ?_)
  · blk_simp [idx t]
    try omega
  · blk_simp [idx t]
    try omega

/-- The whole result of the program. -/
def result (c : Dev nD) : FVec Ideal S1x8x2048 .f32 := fun y =>
  cell (m ((c.tc : Thread nD τ).loc main_arg0)) (m ((c.tc : Thread nD τ).loc main_arg2))
    (m ((c.tc : Thread nD τ).loc main_arg3)) (m ((c.tc : Thread nD τ).loc main_arg7))
    (m ((c.tc : Thread nD τ).loc main_arg9)) (m ((c.tc : Thread nD τ).loc main_arg11)) (y 1) (y 2)

/-- The host line after the region reshapes the array the output window was written back to. -/
theorem tail_reshape (c : Dev nD) (X : FVec Ideal S8x1x2048 .f32)
    (hX : (dats m 0 c).arrAt 6 (cfgs 0).N = X) :
    Pipeline.afterTail₀ cfgs (dats m) 0 (V0 m) [hostOps1] c main_v0
      = shapeCast S1x8x2048 X shapeCasts_S8x1x2048_S1x8x2048 := by
  have h : Pipeline.withArrays (cfgs 0).spec c (V0 m c) (fun w => (dats m 0 c).arrAt w (cfgs 0).N)
      (Proc.devRef .tc main_call0_v2) = X :=
    (Pipeline.withArrays_arr spec0 (by decide +kernel) c (V0 m c) (fun w => (dats m 0 c).arrAt w (cfgs 0).N) 6).trans hX
  unfold Pipeline.afterTail₀
  generalize Pipeline.withArrays (cfgs 0).spec c (V0 m c) (fun w => (dats m 0 c).arrAt w (cfgs 0).N) = σ at h ⊢
  simp only [hostOps1, List.flatten_cons, List.flatten_nil, List.append_nil, StableHlo.TRef.unary, StableHlo.TRef.reshape,
    StableHlo.TRef.toBuf, StableHlo.TRef.ofBuf, cast_eq]
  after_results_simp
  rw [h]
  rfl

/-- The host reshape after the region turns `G` into `result`. -/
theorem tail (c : Dev nD) : Pipeline.afterTail₀ cfgs (dats m) 0 (V0 m) [hostOps1] c main_v0 = result m c := by
  rw [tail_reshape m c _ (final m c)]
  funext y
  idx_vars y
  pointwise [G, result]

/-- Every run of the program ends with `result` in its result and its arguments as they were. -/
theorem run (g : Dev nD → PrngReg) :
    θ_run defs (onTc (τ := τ) (main (F := Ideal))) ⟨m, fun _ => 0, g⟩ (fun r => ∀ c : Dev nD,
      r.2.mem ((c.tc : Thread nD τ).loc main_v0) = result m c) :=
  (θ_run defs _ _).mono (fun _ h c =>
    ((h c).2 main_v0 (Pipeline.mem_restRefs_of main_v0 (by decide) (by decide))).trans (tail m c)) (Gen.run_main m g)

end Cert.KernelIdeal.KernelRun
-- ==== Proof.PreFacts.lean ====
/-
  What the precondition says of the arguments: graph `n / 1024` for node `n`, and biases that are zero.
-/
module

public import proofs.«01_k».proof.Pre_uniform_graphs_zero_biases
public import Idealize.ShloMosaic.Lib.Pointwise
public import Idealize.ShloMosaic.Lib.Routing.OpsSearch
public import Idealize.ShloMosaic.PureOps.Ideal.Laws

@[expose] public section

set_option maxRecDepth 16384

noncomputable section

namespace Cert.Pre_uniform_graphs_zero_biases

open Idealize.ShloMosaic

/-- The shape relations the precondition's broadcasts take. -/
theorem facts : Facts := ⟨by decide, by decide, by decide, by decide⟩

/-- The graph ids the precondition compares with: node `n` has the id `n / 1024`. -/
theorem ids_at [Facts] (n : Fin 8192) :
    fn_floor_divide (F := Ideal) (iotaInDim S8192 32 0) (constantI S_ 32 1024#32) (ix1 n) = BitVec.ofNat 32 (n.val / 1024) :=
  Routing.pyDiv0_ap (fun _ => BitVec.ofNat 32 n.val) (fun _ => BitVec.ofNat 32 1024) rfl rfl (by omega) (by omega) (by omega)

/-- An ordered comparison for equality that answers yes compares equal numbers. -/
theorem eq_of_oeq (x y : EReal) (h : Ideal.cmp .oeq x y = 1#1) : x = y := by
  unfold Ideal.cmp at h
  by_contra hne
  simp [hne] at h

/-- A comparison of words for equality that answers yes compares equal words. -/
theorem eq_of_cmpi (x y : BitVec 32) (h : IntOp.cmpi .eq x y = 1#1) : x = y := by
  by_contra hne
  have e : (x == y) = false := beq_eq_false_iff_ne.mpr hne
  simp [IntOp.cmpi, e] at h

/-- A vector that compares equal with a broadcast zero is zero everywhere. -/
theorem zero_of_oeq {s : Shape} (hb : S_.BroadcastsInDim s (![] : Fin 0 → Fin s.rank)) (x : FVec Ideal s .f32)
    (h : cmpf .oeq x (broadcastInDim s ![] hb (constant S_ .f32 0x00000000#32)) = fun _ => 1#1) (i : s.Idx) : x i = 0 :=
  (eq_of_oeq _ _ (congrFun h i)).trans Ideal.ofBits_zero_f32

/-- The precondition, read: the graph ids are uniform and every bias is zero. -/
theorem read [Facts] (x0 : FVec Ideal S1x8192x128 .f32) (x1 : IVec S8192 32) (x2 : IVec S8192 1) (x3 x4 : FVec Ideal S512x128 .f32)
    (x5 x6 : FVec Ideal S512 .f32) (x7 : FVec Ideal S128x128 .f32) (x8 : FVec Ideal S128 .f32) (x9 : FVec Ideal S128x128 .f32)
    (x10 : FVec Ideal S128 .f32) (x11 : FVec Ideal S1x256 .f32) (x12 : FVec Ideal S1 .f32)
    (h1 : (fn (F := Ideal) x0 x1 x2 x3 x4 x5 x6 x7 x8 x9 x10 x11 x12).1 = fun _ => 1#1)
    (h5 : (fn (F := Ideal) x0 x1 x2 x3 x4 x5 x6 x7 x8 x9 x10 x11 x12).2.1 = fun _ => 1#1)
    (h6 : (fn (F := Ideal) x0 x1 x2 x3 x4 x5 x6 x7 x8 x9 x10 x11 x12).2.2.1 = fun _ => 1#1)
    (h8 : (fn (F := Ideal) x0 x1 x2 x3 x4 x5 x6 x7 x8 x9 x10 x11 x12).2.2.2.1 = fun _ => 1#1)
    (h10 : (fn (F := Ideal) x0 x1 x2 x3 x4 x5 x6 x7 x8 x9 x10 x11 x12).2.2.2.2.1 = fun _ => 1#1)
    (h12 : (fn (F := Ideal) x0 x1 x2 x3 x4 x5 x6 x7 x8 x9 x10 x11 x12).2.2.2.2.2 = fun _ => 1#1) :
    (∀ n : Fin 8192, x1 (ix1 n) = BitVec.ofNat 32 (n.val / 1024)) ∧ (∀ i, x5 i = 0) ∧ (∀ i, x6 i = 0) ∧ (∀ i, x8 i = 0)
      ∧ (∀ i, x10 i = 0) ∧ (∀ i, x12 i = 0) := by
  refine ⟨fun n => ?_, zero_of_oeq _ x5 h5, zero_of_oeq _ x6 h6, zero_of_oeq _ x8 h8, zero_of_oeq _ x10 h10, zero_of_oeq _ x12 h12⟩
  exact (eq_of_cmpi _ _ (congrFun h1 (ix1 n))).trans (ids_at n)

end Cert.Pre_uniform_graphs_zero_biases
-- ==== Proof.RefMem.lean ====
/-
  The reference's LSTM step at one node and feature, under zero biases and a zero state.
-/
module

public import proofs.«01_k».proof.Proof.Gen.ReferenceIdeal.Read
public import proofs.«01_k».proof.Proof.Spec
public import Idealize.ShloMosaic.Lib.Pipeline.ValueKit

@[expose] public section

set_option maxRecDepth 16384

noncomputable section

namespace Cert.ReferenceIdeal.RefMem

open Cert.ReferenceIdeal Cert.ReferenceIdeal.Gen Cert.ReferenceIdeal.Read Cert.Spec Idealize.ShloMosaic

variable (x0 : FVec Ideal S1x8192x128 .f32) (x3 x4 : FVec Ideal S512x128 .f32) (x5 x6 : FVec Ideal S512 .f32)

/-- The gates of node `n`: with zero biases and a zero hidden state, the input's product with the input weights. -/
theorem gates_at (h5 : ∀ i, x5 i = 0) (h6 : ∀ i, x6 i = 0) (n : Fin 8192) (a : Fin 512) :
    val_main_v13 (F := Ideal) x0 x3 x4 x5 x6 (ix2 n a) = gate (fun k => x3 (ix2 a k)) (fun k => x0 (ix3 0 n k)) := by
  pointwise [val_main_v13, val_main_v12, val_main_v11, val_main_v10, val_main_v9, val_main_v8, val_main_v7, val_main_v6, val_main_v5,
    val_main_v4, val_main_v3, val_main_v1, val_main_v0, val_main_cst, gate]
  simp only [h5, h6, zero_mul, Finset.sum_const_zero, add_zero]

/-- The memory of node `n`, one feature. -/
theorem mem_at (h5 : ∀ i, x5 i = 0) (h6 : ∀ i, x6 i = 0) (n : Fin 8192) (j : Fin 128) :
    val_main_v41 (F := Ideal) x0 x3 x4 x5 x6 (ix2 n j) = memRow (fun a k => x3 (ix2 a k)) (fun k => x0 (ix3 0 n k)) j := by
  pointwise [val_main_v41, val_main_v40, val_main_v39, val_main_v38, val_main_cst_6, val_main_v37, val_main_v36, val_main_cst_5,
    val_main_v35, val_main_v34, val_main_v33, val_main_v32, val_main_v31, val_main_v30, val_main_v29, val_main_cst_4, val_main_v28,
    val_main_v27, val_main_cst_3, val_main_v26, val_main_v25, val_main_v24, val_main_v23, val_main_v22, val_main_cst_2, val_main_v21,
    val_main_v20, val_main_cst_1, val_main_v19, val_main_v18, val_main_v17, val_main_v16, val_main_v15, val_main_v14, val_main_v2,
    val_main_cst_0, gates_at x0 x3 x4 x5 x6 h5 h6]
  rw [mul_zero, zero_add]
  rfl

end Cert.ReferenceIdeal.RefMem
-- ==== Proof.RefPool.lean ====
/-
  The reference's mean over each graph and its gather back to the nodes, under uniform graph ids.
-/
module

public import proofs.«01_k».proof.Proof.RefMem
public import Idealize.ShloMosaic.Lib.Routing.Ops
public import Idealize.ShloMosaic.Lib.Routing.OpsPair
public import Idealize.ShloMosaic.Lib.Pointwise.IndexBridge

@[expose] public section

set_option maxRecDepth 16384

noncomputable section

namespace Cert.ReferenceIdeal.RefPool

open Cert.ReferenceIdeal Cert.ReferenceIdeal.Gen Cert.ReferenceIdeal.Read Cert.Spec Idealize.ShloMosaic

/-- A count update lands at graph `g` exactly when its index word, read signed, is `g`. -/
theorem lands_count (idx : IVec S8192x1 32) (n : Fin 8192) (g : Fin 8) :
    scatter_S8_S8192x1_S8192_n_0_0_1.resultIdx? (ix1 n) idx = some (ix1 g) ↔ (idx (ix2 n 0)).toInt = (g.val : Int) := by
  have hw : scatter_S8_S8192x1_S8192_n_0_0_1.window (ix1 n) 0 = 0 := rfl
  have hs : scatter_S8_S8192x1_S8192_n_0_0_1.start (ix1 n) idx 0 = (idx (ix2 n 0)).toInt := by
    refine congrArg (fun i => (idx i).toInt) (funext fun a => ?_)
    match a with
    | ⟨0, _⟩ => rfl
    | ⟨1, _⟩ => rfl
  rw [Routing.resultIdx?_eq_some]
  constructor
  · intro h
    have := h 0
    rw [hw, hs] at this
    simpa using this
  · intro h a
    obtain rfl : a = 0 := Subsingleton.elim _ _
    rw [hw, hs, h]
    simp

/-- A row update's element lands at graph `g`, feature `j'` exactly when its index word is `g` and its feature is `j'`. -/
theorem lands_row (idx : IVec S8192x1 32) (n : Fin 8192) (j j' : Fin 128) (g : Fin 8) :
    scatter_S8x128_S8192x1_S8192x128_1_0_0_1.resultIdx? (ix2 n j) idx = some (ix2 g j')
      ↔ (idx (ix2 n 0)).toInt = (g.val : Int) ∧ j = j' := by
  have hw0 : scatter_S8x128_S8192x1_S8192x128_1_0_0_1.window (ix2 n j) 0 = 0 := rfl
  have hw1 : scatter_S8x128_S8192x1_S8192x128_1_0_0_1.window (ix2 n j) 1 = j.val := rfl
  have hs0 : scatter_S8x128_S8192x1_S8192x128_1_0_0_1.start (ix2 n j) idx 0 = (idx (ix2 n 0)).toInt := by
    refine congrArg (fun i => (idx i).toInt) (funext fun a => ?_)
    match a with
    | ⟨0, _⟩ => rfl
    | ⟨1, _⟩ => rfl
  have hs1 : scatter_S8x128_S8192x1_S8192x128_1_0_0_1.start (ix2 n j) idx 1 = 0 := rfl
  rw [Routing.resultIdx?_eq_some]
  constructor
  · intro h
    have h0 := h 0
    have h1 := h 1
    rw [hw0, hs0] at h0
    rw [hw1, hs1] at h1
    refine ⟨by simpa using h0, Fin.ext ?_⟩
    have e : ((ix2 g j' : S8x128.Idx) 1).val = j'.val := rfl
    rw [e] at h1
    omega
  · rintro ⟨h, rfl⟩ a
    match a with
    | ⟨0, _⟩ => exact (congrArg₂ (fun (p : Int) (q : ℕ) => p + (q : Int)) hs0 hw0).trans (by simpa using h)
    | ⟨1, _⟩ => exact (congrArg₂ (fun (p : Int) (q : ℕ) => p + (q : Int)) hs1 hw1).trans (by simp)

/-- The word of a graph id, read signed, is the id. -/
theorem toInt_id (n : Fin 8192) : (BitVec.ofNat 32 (n.val / 1024)).toInt = ((n.val / 1024 : ℕ) : Int) := by
  have h : n.val / 1024 < 8 := by omega
  generalize n.val / 1024 = k at h ⊢
  interval_cases k <;> rfl

/-- A sum over the node indices of one graph is a sum over its 1024 nodes. -/
theorem sum_nodes (P : S8192.Idx → Prop) [DecidablePred P] (g : Fin 8) (hP : ∀ n, P (ix1 n) ↔ n.val / 1024 = g.val)
    (f : S8192.Idx → EReal) :
    ∑ j with P j, f j = ∑ r : Fin 1024, f (ix1 ⟨1024 * g.val + r.val, by omega⟩) := by
  have back : ∀ j : S8192.Idx, j = ix1 (j 0) := fun j => by
    funext a
    match a with
    | ⟨0, _⟩ => rfl
  refine (Finset.sum_nbij' (fun r : Fin 1024 => (ix1 ⟨1024 * g.val + r.val, by omega⟩ : S8192.Idx))
    (fun j : S8192.Idx => ⟨(j 0).val % 1024, Nat.mod_lt _ (by norm_num)⟩) ?_ ?_ ?_ ?_ ?_).symm
  · intro r _
    refine Finset.mem_filter.2 ⟨Finset.mem_univ _, (hP _).2 ?_⟩
    show (1024 * g.val + r.val) / 1024 = g.val
    omega
  · intro j _
    exact Finset.mem_univ _
  · intro r _
    refine Fin.ext ?_
    show (1024 * g.val + r.val) % 1024 = r.val
    omega
  · intro j hj
    have h := (Finset.mem_filter.1 hj).2
    rw [back j] at h
    have h' := (hP _).1 h
    rw [back j]
    refine congrArg _ (Fin.ext ?_)
    show 1024 * g.val + (j 0).val % 1024 = (j 0).val
    omega
  · intro r _
    rfl

/-- A sum over the node-feature indices of one graph and feature is a sum over the graph's 1024 nodes. -/
theorem sum_rows (P : S8192x128.Idx → Prop) [DecidablePred P] (g : Fin 8) (c : Fin 128)
    (hP : ∀ n j, P (ix2 n j) ↔ n.val / 1024 = g.val ∧ j = c) (f : S8192x128.Idx → EReal) :
    ∑ j with P j, f j = ∑ r : Fin 1024, f (ix2 ⟨1024 * g.val + r.val, by omega⟩ c) := by
  have back : ∀ j : S8192x128.Idx, j = ix2 (j 0) (j 1) := fun j => by
    funext a
    match a with
    | ⟨0, _⟩ => rfl
    | ⟨1, _⟩ => rfl
  refine (Finset.sum_nbij' (fun r : Fin 1024 => (ix2 ⟨1024 * g.val + r.val, by omega⟩ c : S8192x128.Idx))
    (fun j : S8192x128.Idx => ⟨(j 0).val % 1024, Nat.mod_lt _ (by norm_num)⟩) ?_ ?_ ?_ ?_ ?_).symm
  · intro r _
    refine Finset.mem_filter.2 ⟨Finset.mem_univ _, (hP _ _).2 ⟨?_, rfl⟩⟩
    show (1024 * g.val + r.val) / 1024 = g.val
    omega
  · intro j _
    exact Finset.mem_univ _
  · intro r _
    refine Fin.ext ?_
    show (1024 * g.val + r.val) % 1024 = r.val
    omega
  · intro j hj
    have h := (Finset.mem_filter.1 hj).2
    rw [back j] at h
    obtain ⟨h', e⟩ := (hP _ _).1 h
    rw [back j, e]
    refine congrArg (fun n => (ix2 n c : S8192x128.Idx)) (Fin.ext ?_)
    show 1024 * g.val + (j 0).val % 1024 = (j 0).val
    omega
  · intro r _
    rfl

variable (x0 : FVec Ideal S1x8192x128 .f32) (x1 : IVec S8192 32) (x3 x4 : FVec Ideal S512x128 .f32) (x5 x6 : FVec Ideal S512 .f32)

/-- Graph `g` has 1024 nodes. -/
theorem count_at (hb : ∀ n : Fin 8192, x1 (ix1 n) = BitVec.ofNat 32 (n.val / 1024)) (g : Fin 8) :
    val_main_v45 (F := Ideal) x1 (ix1 g) = 1024 := by
  have hi : ∀ n : Fin 8192, val_main_v44 (F := Ideal) x1 (ix2 n 0) = BitVec.ofNat 32 (n.val / 1024) := fun n => by
    rw [← hb]
    pointwise [val_main_v44]
  have h0 : val_main_v43 (F := Ideal) (ix1 g) = 0 := by pointwise [val_main_v43, val_main_cst_8]
  have h1 : ∀ n : Fin 8192, val_main_v42 (F := Ideal) (ix1 n) = 1 := fun n => by pointwise [val_main_v42, val_main_cst_7]
  unfold val_main_v45 Host.scatterAdd
  rw [Ideal.hostScatterAdd_def]
  unfold Ideal.hostScatterAdd
  rw [sum_nodes _ g (fun n => by rw [lands_count, hi, toInt_id]; omega), h0]
  simp only [h1, Finset.sum_const, Finset.card_univ, Fintype.card_fin, zero_add]
  norm_num

/-- The sum of the memories of graph `g`, one feature. -/
theorem total_at (hb : ∀ n : Fin 8192, x1 (ix1 n) = BitVec.ofNat 32 (n.val / 1024)) (h5 : ∀ i, x5 i = 0) (h6 : ∀ i, x6 i = 0)
    (g : Fin 8) (j : Fin 128) :
    val_main_v48 (F := Ideal) x0 x1 x3 x4 x5 x6 (ix2 g j)
      = ∑ r : Fin 1024, memRow (fun a k => x3 (ix2 a k)) (fun k => x0 (ix3 0 ⟨1024 * g.val + r.val, by omega⟩ k)) j := by
  have hi : ∀ n : Fin 8192, val_main_v47 (F := Ideal) x1 (ix2 n 0) = BitVec.ofNat 32 (n.val / 1024) := fun n => by
    rw [← hb]
    pointwise [val_main_v47]
  have h0 : val_main_v46 (F := Ideal) (ix2 g j) = 0 := by pointwise [val_main_v46, val_main_cst_9]
  unfold val_main_v48 Host.scatterAdd
  rw [Ideal.hostScatterAdd_def]
  unfold Ideal.hostScatterAdd
  rw [sum_rows _ g j (fun n j' => by rw [lands_row, hi, toInt_id]; omega), h0, zero_add]
  simp only [RefMem.mem_at x0 x3 x4 x5 x6 h5 h6]

/-- The mean of the memories of graph `g`, one feature. -/
theorem mean_at (hb : ∀ n : Fin 8192, x1 (ix1 n) = BitVec.ofNat 32 (n.val / 1024)) (h5 : ∀ i, x5 i = 0) (h6 : ∀ i, x6 i = 0)
    (g : Fin 8) (j : Fin 128) :
    val_main_v51 (F := Ideal) x0 x1 x3 x4 x5 x6 (ix2 g j)
      = pooled (fun r => memRow (fun a k => x3 (ix2 a k)) (fun k => x0 (ix3 0 ⟨1024 * g.val + r.val, by omega⟩ k))) j := by
  pointwise [val_main_v51, val_main_v50, val_main_v49, total_at x0 x1 x3 x4 x5 x6 hb h5 h6, count_at x1 hb]
  rw [show (1024 : EReal) = ((1024 : ℝ) : EReal) from rfl, Ideal.div_coe (by norm_num)]
  rfl

/-- The gather's index word of a node is its graph id: the ids are not negative. -/
theorem index_at (hb : ∀ n : Fin 8192, x1 (ix1 n) = BitVec.ofNat 32 (n.val / 1024)) (n : Fin 8192) :
    val_main_call0_v5 (F := Ideal) x1 (ix2 n 0) = BitVec.ofNat 32 (n.val / 1024) := by
  pointwise [val_main_call0_v5, val_main_call0_v4, val_main_call0_v3, val_main_call0_v2, val_main_call0_v1, val_main_call0_v0,
    val_main_call0_c, val_main_call0_c_0, hb]
  exact Routing.wrap_of_lt _ _ (by rw [BitVec.toNat_ofNat]; omega)

/-- Every gather index is in range. -/
theorem mask_at (hb : ∀ n : Fin 8192, x1 (ix1 n) = BitVec.ofNat 32 (n.val / 1024)) (n : Fin 8192) (j : Fin 128) :
    val_main_call0_v14 (F := Ideal) x1 (ix2 n j) = 1#1 := by
  pointwise [val_main_call0_v14, val_main_call0_v12, val_main_call0_v11, val_main_call0_v10, val_main_call0_v9, val_main_call0_v8,
    val_main_call0_v7, val_main_call0_v6, val_main_call0_c_1, val_main_call0_c_2, val_main_call0_c_3, index_at x1 hb]
  simp only [Finset.univ_unique, Finset.fold_singleton, Fin.default_eq_zero, index_at x1 hb]
  have h : n.val / 1024 < 8 := by omega
  generalize n.val / 1024 = k at h ⊢
  interval_cases k <;> rfl

/-- The mean gathered back to node `n` is its graph's. -/
theorem taken_at (hb : ∀ n : Fin 8192, x1 (ix1 n) = BitVec.ofNat 32 (n.val / 1024)) (h5 : ∀ i, x5 i = 0) (h6 : ∀ i, x6 i = 0)
    (g : Fin 8) (r : Fin 1024) (j : Fin 128) :
    val_main_v52 (F := Ideal) x0 x1 x3 x4 x5 x6 (ix2 ⟨1024 * g.val + r.val, by omega⟩ j)
      = pooled (fun r => memRow (fun a k => x3 (ix2 a k)) (fun k => x0 (ix3 0 ⟨1024 * g.val + r.val, by omega⟩ k))) j := by
  have hg : val_main_call0_v13 (F := Ideal) x0 x1 x3 x4 x5 x6 (ix2 ⟨1024 * g.val + r.val, by omega⟩ j)
      = val_main_v51 (F := Ideal) x0 x1 x3 x4 x5 x6 (ix2 g j) := by
    refine Routing.gather_row gather_S8x128_S8192x1_S8192x128_1_0_n_n_0_1_1128 rfl rfl rfl rfl rfl _ _
      ⟨1024 * g.val + r.val, by omega⟩ j g ?_ (by norm_num)
    refine (index_at x1 hb ⟨1024 * g.val + r.val, by omega⟩).trans (congrArg _ ?_)
    show (1024 * g.val + r.val) / 1024 = g.val
    omega
  pointwise [val_main_v52, mask_at x1 hb]
  rw [hg, mean_at x0 x1 x3 x4 x5 x6 hb h5 h6]

end Cert.ReferenceIdeal.RefPool
-- ==== Proof.RefValue.lean ====
/-
  The reference's result, as the mathematics of `Proof/Spec.lean`, under uniform graph ids and zero biases.
-/
module

public import proofs.«01_k».proof.Proof.RefPool

@[expose] public section

set_option maxRecDepth 16384

noncomputable section

namespace Cert.ReferenceIdeal.RefValue

open Cert.ReferenceIdeal Cert.ReferenceIdeal.Gen Cert.ReferenceIdeal.Read Cert.Spec Idealize.ShloMosaic

variable (x0 : FVec Ideal S1x8192x128 .f32) (x1 : IVec S8192 32) (x2 : IVec S8192 1) (x3 x4 : FVec Ideal S512x128 .f32)
  (x5 x6 : FVec Ideal S512 .f32) (x7 : FVec Ideal S128x128 .f32) (x8 : FVec Ideal S128 .f32) (x9 : FVec Ideal S128x128 .f32)
  (x10 : FVec Ideal S128 .f32) (x11 : FVec Ideal S1x256 .f32) (x12 : FVec Ideal S1 .f32)

/-- The score of node `r` of graph `g` as the reference computes it. -/
def scoreOf (g : Fin 8) (r : Fin 1024) : EReal :=
  score (fun q => memRow (fun a k => x3 (ix2 a k)) (fun k => x0 (ix3 0 ⟨1024 * g.val + q.val, by omega⟩ k)))
    (fun j k => x7 (ix2 j k)) (fun j k => x9 (ix2 j k)) (fun j => x11 (ix2 0 j)) r

/-- The global half of the hidden layer before the rectifier. -/
theorem global_at (hb : ∀ n : Fin 8192, x1 (ix1 n) = BitVec.ofNat 32 (n.val / 1024)) (h5 : ∀ i, x5 i = 0) (h6 : ∀ i, x6 i = 0)
    (h8 : ∀ i, x8 i = 0) (g : Fin 8) (r : Fin 1024) (j : Fin 128) :
    val_main_v57 (F := Ideal) x0 x1 x3 x4 x5 x6 x7 x8 (ix2 ⟨1024 * g.val + r.val, by omega⟩ j)
      = gate (fun k => x7 (ix2 j k))
          (pooled fun q => memRow (fun a k => x3 (ix2 a k)) (fun k => x0 (ix3 0 ⟨1024 * g.val + q.val, by omega⟩ k))) := by
  pointwise [val_main_v57, val_main_v56, val_main_v55, val_main_v54, val_main_v53, gate]
  simp only [h8, add_zero, RefPool.taken_at x0 x1 x3 x4 x5 x6 hb h5 h6]

/-- The local half of the hidden layer before the rectifier. -/
theorem local_at (h5 : ∀ i, x5 i = 0) (h6 : ∀ i, x6 i = 0) (h10 : ∀ i, x10 i = 0) (n : Fin 8192) (j : Fin 128) :
    val_main_v62 (F := Ideal) x0 x3 x4 x5 x6 x9 x10 (ix2 n j)
      = gate (fun k => x9 (ix2 j k)) (memRow (fun a k => x3 (ix2 a k)) (fun k => x0 (ix3 0 n k))) := by
  pointwise [val_main_v62, val_main_v61, val_main_v60, val_main_v59, val_main_v58, gate, RefMem.mem_at x0 x3 x4 x5 x6 h5 h6]
  simp only [h10, add_zero]

/-- The score of a node before masking. -/
theorem score_at (hb : ∀ n : Fin 8192, x1 (ix1 n) = BitVec.ofNat 32 (n.val / 1024)) (h5 : ∀ i, x5 i = 0) (h6 : ∀ i, x6 i = 0)
    (h8 : ∀ i, x8 i = 0) (h10 : ∀ i, x10 i = 0) (h12 : ∀ i, x12 i = 0) (g : Fin 8) (r : Fin 1024) :
    val_main_v69 (F := Ideal) x0 x1 x3 x4 x5 x6 x7 x8 x9 x10 x11 x12 (ix2 ⟨1024 * g.val + r.val, by omega⟩ 0)
      = scoreOf x0 x3 x7 x9 x11 g r := by
  pointwise [val_main_v69, val_main_v68, val_main_v67, val_main_v66, val_main_v65, val_main_v64, val_main_call1_v0, val_main_call1_cst,
    val_main_v63]
  simp only [h12, add_zero, global_at x0 x1 x3 x4 x5 x6 x7 x8 hb h5 h6 h8, local_at x0 x3 x4 x5 x6 x9 x10 h5 h6 h10]
  rfl

/-- The reference's result at graph `g`, position `i`. -/
theorem value_at (hb : ∀ n : Fin 8192, x1 (ix1 n) = BitVec.ofNat 32 (n.val / 1024)) (h5 : ∀ i, x5 i = 0) (h6 : ∀ i, x6 i = 0)
    (h8 : ∀ i, x8 i = 0) (h10 : ∀ i, x10 i = 0) (h12 : ∀ i, x12 i = 0) (g : Fin 8) (i : Fin 2048) :
    val_main_v75 (F := Ideal) x0 x1 x2 x3 x4 x5 x6 x7 x8 x9 x10 x11 x12 (ix3 0 g i)
      = if h : i.val < 1024 then Scalar.select (x2 (ix1 ⟨1024 * g.val + i.val, by omega⟩)) (scoreOf x0 x3 x7 x9 x11 g ⟨i.val, h⟩) ⊥
        else ⊥ := by
  pointwise [val_main_v75, val_main_v74, val_main_v73, val_main_cst_11, val_main_v72, val_main_v71, val_main_call2_v1, val_main_call2_v0, val_main_cst_10,
    val_main_v70, neg_inf_bits]
  simp only [Nat.mul_comm g.val 1024]
  by_cases h : i.val < 1024
  · rw [dif_pos h, dif_pos h, ← score_at x0 x1 x3 x4 x5 x6 x7 x8 x9 x10 x11 x12 hb h5 h6 h8 h10 h12 g ⟨i.val, h⟩]
    exact congrArg _ neg_inf_bits
  · rw [dif_neg h, dif_neg h]

end Cert.ReferenceIdeal.RefValue
-- ==== Proof.Algebraic.lean ====
/-
  The kernel's result and the reference's are one array, when the precondition holds of the arguments.
-/
module

public import proofs.«01_k».proof.Defs
public import proofs.«01_k».proof.Proof.KernelRun
public import proofs.«01_k».proof.Proof.PreFacts
public import proofs.«01_k».proof.Proof.RefValue
public import proofs.«01_k».proof.Proof.Gen.ReferenceIdeal.Run
public import proofs.«01_k».proof.Proof.Gen.KernelIdeal.Frame
public import Idealize.ShloMosaic.Lib.Quiescent

@[expose] public section

set_option maxRecDepth 16384

noncomputable section

namespace Cert.Algebraic

open Idealize.ShloMosaic Idealize.SL.Sem

/-- The reference's result, as a function of arguments with uniform graph ids and zero biases, is entry by entry what
    the kernel leaves. -/
theorem value_eq (x0 : FVec Ideal KernelIdeal.S1x8192x128 .f32) (x1 : IVec KernelIdeal.S8192 32) (x2 : IVec KernelIdeal.S8192 1)
    (x3 x4 : FVec Ideal KernelIdeal.S512x128 .f32) (x5 x6 : FVec Ideal KernelIdeal.S512 .f32)
    (x7 : FVec Ideal KernelIdeal.S128x128 .f32) (x8 : FVec Ideal KernelIdeal.S128 .f32)
    (x9 : FVec Ideal KernelIdeal.S128x128 .f32) (x10 : FVec Ideal KernelIdeal.S128 .f32)
    (x11 : FVec Ideal KernelIdeal.S1x256 .f32) (x12 : FVec Ideal KernelIdeal.S1 .f32)
    (h : (∀ n : Fin 8192, x1 (ix1 n) = BitVec.ofNat 32 (n.val / 1024)) ∧ (∀ i, x5 i = 0) ∧ (∀ i, x6 i = 0) ∧ (∀ i, x8 i = 0)
      ∧ (∀ i, x10 i = 0) ∧ (∀ i, x12 i = 0)) :
    ReferenceIdeal.Read.val_main_v75 (F := Ideal) x0 x1 x2 x3 x4 x5 x6 x7 x8 x9 x10 x11 x12
      = fun y : KernelIdeal.S1x8x2048.Idx => KernelIdeal.KernelRun.cell x0 x2 x3 x7 x9 x11 (y 1) (y 2) := by
  obtain ⟨hb, h5, h6, h8, h10, h12⟩ := h
  funext y
  obtain ⟨a, g, i, rfl⟩ : ∃ (a : Fin 1) (g : Fin 8) (i : Fin 2048), y = ix3 a g i :=
    ⟨y 0, y 1, y 2, by funext k; fin_cases k <;> rfl⟩
  obtain rfl : a = 0 := Subsingleton.elim _ _
  exact ReferenceIdeal.RefValue.value_at x0 x1 x2 x3 x4 x5 x6 x7 x8 x9 x10 x11 x12 hb h5 h6 h8 h10 h12 g i

/-- From every memory the reference terminates, leaves its arguments as they were, and every semaphore counter is zero:
    it declares none. -/
theorem reference_frame : quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- Under the precondition the kernel and the reference, run on equal arguments, leave equal results. -/
theorem algebraic : algebraic_KernelIdeal_ReferenceIdeal_pre_uniform_graphs_zero_biases
    (hKernelIdeal := KernelIdeal.Gen.facts) (hReferenceIdeal := ReferenceIdeal.Gen.facts)
    (hPre_uniform_graphs_zero_biases := Pre_uniform_graphs_zero_biases.facts) := by
  intro m g m' g' hpre hagree
  refine ⟨fun c => KernelIdeal.KernelRun.result m c, ?_, ?_⟩
  · run_from (KernelIdeal.KernelRun.run m g) & (KernelIdeal.Gen.unchanged m g)
  · refine (θ_run _ _ _).mono (fun r h c => ⟨(h c).1.trans ?_, (h c).2⟩) (ReferenceIdeal.Value.run m' g')
    rw [ReferenceIdeal.Read.val_main_v75_eq m' c]
    obtain ⟨e0, e1, e2, e3, e4, e5, e6, e7, e8, e9, e10, e11, e12⟩ := hagree c
    rw [e0, e1, e2, e3, e4, e5, e6, e7, e8, e9, e10, e11, e12]
    obtain ⟨p1, p5, p6, p8, p10, p12⟩ := hpre c
    letI := Pre_uniform_graphs_zero_biases.facts
    exact value_eq _ _ _ _ _ _ _ _ _ _ _ _ _
      (Pre_uniform_graphs_zero_biases.read _ _ _ _ _ _ _ _ _ _ _ _ _ p1 p5 p6 p8 p10 p12)

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every conjunct of the certificate: the kernel, its idealized form and the reference terminate without touching their
    arguments and with every semaphore counter at zero, and the idealized kernel's result is the reference's. -/
theorem claim : Cert.Claim := ⟨Cert.Kernel.Gen.facts, Cert.KernelIdeal.Gen.facts, Cert.ReferenceIdeal.Gen.facts,
  Cert.Pre_uniform_graphs_zero_biases.facts, fun m g _ => Cert.Kernel.Gen.frame m g, fun m g _ => Cert.KernelIdeal.Gen.frame m g,
  fun m g _ => Cert.KernelIdeal.Gen.frame m g, Cert.Algebraic.reference_frame,
  fun m g _ => Cert.Algebraic.reference_frame m g trivial, trivial, Cert.Algebraic.algebraic⟩

end Cert.Proof

end
